-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x8192 : Shape := ⟨2, ![512, 8192]⟩
abbrev S128x16x64 : Shape := ⟨3, ![128, 16, 64]⟩
abbrev S128x1024 : Shape := ⟨2, ![128, 1024]⟩
abbrev S1024x128 : Shape := ⟨2, ![1024, 128]⟩
abbrev S64x16x512 : Shape := ⟨3, ![64, 16, 512]⟩
abbrev S64x1x512 : Shape := ⟨3, ![64, 1, 512]⟩
abbrev S512x512 : Shape := ⟨2, ![512, 512]⟩
abbrev S4x16x512 : Shape := ⟨3, ![4, 16, 512]⟩
abbrev S4x1x512 : Shape := ⟨3, ![4, 1, 512]⟩
abbrev S512x128 : Shape := ⟨2, ![512, 128]⟩
abbrev S1024x512 : Shape := ⟨2, ![1024, 512]⟩
abbrev S16x64x512 : Shape := ⟨3, ![16, 64, 512]⟩
abbrev S16x512 : Shape := ⟨2, ![16, 512]⟩
abbrev S16x1x512 : Shape := ⟨3, ![16, 1, 512]⟩
abbrev S1x16x512 : Shape := ⟨3, ![1, 16, 512]⟩
abbrev S512 : Shape := ⟨1, ![512]⟩
abbrev S1x1x512 : Shape := ⟨3, ![1, 1, 512]⟩
abbrev S512x64x16 : Shape := ⟨3, ![512, 64, 16]⟩
abbrev S64x512 : Shape := ⟨2, ![64, 512]⟩
abbrev S512x64 : Shape := ⟨2, ![512, 64]⟩
abbrev S_ : Shape := ⟨0, ![]⟩

abbrev nBuf : Space → Nat
  | .hbm => 11
  | .vmem => 7
  | .smem => 0
  | _ => 0

abbrev bufTy : (tb : Table) → Fin (tcTables nBuf tb) → BufTy
  | .hbm, ⟨0, _⟩ => ⟨S512x8192, .f32⟩
  | .hbm, ⟨1, _⟩ => ⟨S128x16x64, .f32⟩
  | .hbm, ⟨2, _⟩ => ⟨S128x1024, .f32⟩
  | .hbm, ⟨3, _⟩ => ⟨S1024x128, .f32⟩
  | .hbm, ⟨4, _⟩ => ⟨S64x16x512, .i32⟩
  | .hbm, ⟨5, _⟩ => ⟨S64x1x512, .f32⟩
  | .hbm, ⟨6, _⟩ => ⟨S512x64x16, .i32⟩
  | .hbm, ⟨7, _⟩ => ⟨S64x512, .f32⟩
  | .hbm, ⟨8, _⟩ => ⟨S512x64, .f32⟩
  | .hbm, ⟨9, _⟩ => ⟨S_, .i32⟩
  | .hbm, ⟨10, _⟩ => ⟨S512x64, .i32⟩
  | .local _ .vmem, ⟨0, _⟩ => ⟨S512x512, .f32⟩
  | .local _ .vmem, ⟨1, _⟩ => ⟨S512x512, .f32⟩
  | .local _ .vmem, ⟨2, _⟩ => ⟨S1024x128, .f32⟩
  | .local _ .vmem, ⟨3, _⟩ => ⟨S4x16x512, .i32⟩
  | .local _ .vmem, ⟨4, _⟩ => ⟨S4x16x512, .i32⟩
  | .local _ .vmem, ⟨5, _⟩ => ⟨S4x1x512, .f32⟩
  | .local _ .vmem, ⟨6, _⟩ => ⟨S4x1x512, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x16x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S512x8192 : Shape := ⟨2, ![512, 8192]⟩
abbrev S128x16x64 : Shape := ⟨3, ![128, 16, 64]⟩
abbrev S32768x128 : Shape := ⟨2, ![32768, 128]⟩
abbrev S32768x16x64 : Shape := ⟨3, ![32768, 16, 64]⟩
abbrev S_ : Shape := ⟨0, ![]⟩
abbrev S32768x16 : Shape := ⟨2, ![32768, 16]⟩
abbrev S32768 : Shape := ⟨1, ![32768]⟩
abbrev S512x64x16 : Shape := ⟨3, ![512, 64, 16]⟩
abbrev S512x64 : Shape := ⟨2, ![512, 64]⟩

abbrev nBuf : Space → Nat
  | .hbm => 18
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S128x16x64, .f32⟩
  | .hbm, ⟨2, _⟩ => ⟨S32768x128, .f32⟩
  | .hbm, ⟨3, _⟩ => ⟨S32768x16x64, .f32⟩
  | .hbm, ⟨4, _⟩ => ⟨S32768x16x64, .i32⟩
  | .hbm, ⟨5, _⟩ => ⟨S_, .f32⟩
  | .hbm, ⟨6, _⟩ => ⟨S_, .i32⟩
  | .hbm, ⟨7, _⟩ => ⟨S32768x16, .f32⟩
  | .hbm, ⟨8, _⟩ => ⟨S32768x16, .i32⟩
  | .hbm, ⟨9, _⟩ => ⟨S_, .f32⟩
  | .hbm, ⟨10, _⟩ => ⟨S32768x16, .f32⟩
  | .hbm, ⟨11, _⟩ => ⟨S_, .f32⟩
  | .hbm, ⟨12, _⟩ => ⟨S32768, .f32⟩
  | .hbm, ⟨13, _⟩ => ⟨S_, .i32⟩
  | .hbm, ⟨14, _⟩ => ⟨S32768, .i32⟩
  | .hbm, ⟨15, _⟩ => ⟨S512x64x16, .i32⟩
  | .hbm, ⟨16, _⟩ => ⟨S512x64, .i32⟩
  | .hbm, ⟨17, _⟩ => ⟨S512x64, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== Proof.FirstMax.lean ====
module

public import Idealize.ShloMosaic.Lib.Pointwise
public import Idealize.ShloMosaic.Lib.WordCmp

/-!
The mathematics of "the first position of the greatest value" on a row of 64 extended reals: the greatest
value, the first position holding it, and the two ways of computing that position the programs use.
-/

@[expose] public section

noncomputable section

namespace Cert.FirstMax
open Idealize.ShloMosaic

/-- The greatest of 64 values, started from the least extended real. -/
def top (f : Fin 64 → EReal) : EReal := Finset.univ.fold max ⊥ f

/-- Every value is at most the greatest. -/
theorem le_top (f : Fin 64 → EReal) (v : Fin 64) : f v ≤ top f :=
  (Finset.le_fold_max _).2 (Or.inr ⟨v, Finset.mem_univ v, le_rfl⟩)

/-- `i` is the first position of the greatest value: no value is above that at `i`, and every position with
    the same value is at or after `i`. -/
structure IsFirst (f : Fin 64 → EReal) (i : Fin 64) : Prop where
  le : ∀ v, f v ≤ f i
  first : ∀ v, f v = f i → i ≤ v

/-- The greatest value is the value at its first position. -/
theorem IsFirst.top_eq {f : Fin 64 → EReal} {i : Fin 64} (h : IsFirst f i) : top f = f i :=
  le_antisymm ((Finset.fold_max_le _).2 ⟨bot_le, fun v _ => h.le v⟩) (le_top f i)

/-- A first position of the greatest value exists. -/
theorem exists_isFirst (f : Fin 64 → EReal) : ∃ i, IsFirst f i := by
  obtain ⟨m, -, hm⟩ := Finset.exists_max_image Finset.univ f ⟨0, Finset.mem_univ 0⟩
  have hne : (Finset.univ.filter fun v => f v = f m).Nonempty := ⟨m, by simp⟩
  have hmem := (Finset.mem_filter.1 (Finset.min'_mem _ hne)).2
  refine ⟨(Finset.univ.filter fun v => f v = f m).min' hne, fun v => ?_, fun v hv => ?_⟩
  · rw [hmem]; exact hm v (Finset.mem_univ v)
  · exact Finset.min'_le _ _ (Finset.mem_filter.2 ⟨Finset.mem_univ v, hv.trans hmem⟩)

/-- The first position of the greatest value. -/
def first (f : Fin 64 → EReal) : Fin 64 := Classical.choose (exists_isFirst f)

/-- The chosen position is a first position of the greatest value. -/
theorem first_isFirst (f : Fin 64 → EReal) : IsFirst f (first f) := Classical.choose_spec (exists_isFirst f)

/-- Two first positions of the greatest value are one. -/
theorem IsFirst.unique {f : Fin 64 → EReal} {i j : Fin 64} (hi : IsFirst f i) (hj : IsFirst f j) : i = j :=
  le_antisymm (hi.first j (le_antisymm (hi.le j) (hj.le i))) (hj.first i (le_antisymm (hj.le i) (hi.le j)))

/-- The least of "the position where the value is the greatest, and 64 elsewhere" is the first position of
    the greatest value. -/
theorem fold_min_position (f : Fin 64 → EReal) :
    Finset.univ.fold min (⊤ : EReal) (fun v : Fin 64 => if f v = top f then (((v : ℕ) : ℝ) : EReal) else ((64 : ℝ) : EReal))
      = (((first f : ℕ) : ℝ) : EReal) := by
  have h := first_isFirst f
  refine le_antisymm ((Finset.fold_min_le _).2 (Or.inr ⟨first f, Finset.mem_univ _, ?_⟩))
    ((Finset.le_fold_min _).2 ⟨_root_.le_top, fun v _ => ?_⟩)
  · rw [if_pos h.top_eq.symm]
  · split_ifs with hv
    · rw [EReal.coe_le_coe_iff]
      exact_mod_cast h.first v (hv.trans h.top_eq)
    · rw [EReal.coe_le_coe_iff]
      exact_mod_cast (first f).isLt.le

/-- A position converted to a 32-bit integer from its real value is itself. -/
theorem fptosi_position (i : Fin 64) :
    Ideal.fptosi 32 (((i : ℕ) : ℝ) : EReal) = BitVec.ofNat 32 i := by
  rw [Ideal.fptosi, Ideal.toIntClamped_coe, if_pos (Nat.cast_nonneg _), Int.floor_natCast,
    min_eq_right (by have := i.isLt; omega), max_eq_right (by omega), BitVec.ofInt_natCast]

/-- A position's 32-bit word read signed is the position. -/
theorem toInt_position (i : Fin 64) : (BitVec.ofNat 32 (i : ℕ)).toInt = (i : ℤ) :=
  WordCmp.toInt_ofNat_of_lt (by have := i.isLt; omega)

/-- A position's 32-bit word converted to a real is the position. -/
theorem sitofp_position (i : Fin 64) :
    FloatOps.sitofp (F := Ideal) .f32 (BitVec.ofNat 32 (i : ℕ)) = (((i : ℕ) : ℝ) : EReal) := by
  show (((BitVec.ofNat 32 (i : ℕ)).toInt : ℝ) : EReal) = _
  rw [toInt_position]; simp

/-- The word of −∞ denotes the least extended real. -/
theorem const_neg_inf : Ideal.ofBits .f32 0xFF800000#32 = ⊥ := by simp [Ideal.ofBits, Ideal.ieee]
/-- The word of +∞ denotes the greatest extended real. -/
theorem const_pos_inf : Ideal.ofBits .f32 0x7F800000#32 = ⊤ := by simp [Ideal.ofBits, Ideal.ieee]
/-- The word of 64.0 denotes 64. -/
theorem const_sixty_four : Ideal.ofBits .f32 0x42800000#32 = ((64 : ℝ) : EReal) := by
  simp [Ideal.ofBits, Ideal.ieee, -EReal.coe_mul]; norm_num

/-- One step of the running arg-max on (value, position) pairs: the greater value, at equal values the
    smaller position. -/
def step (a b : EReal × BitVec 32) : EReal × BitVec 32 :=
  (if b.1 < a.1 then a.1 else b.1, if b.1 < a.1 ∨ (a.1 = b.1 ∧ a.2.slt b.2) then a.2 else b.2)

/-- What the running arg-max holds after the pairs of `L`: a value above every value met, and a position at
    or before every met position of that value, itself met with that value — or the start pair. -/
def Holds (f : Fin 64 → EReal) (L : Set (Fin 64)) (p : EReal × BitVec 32) : Prop :=
  ∃ i : Fin 64, p.2 = BitVec.ofNat 32 i ∧ (∀ v ∈ L, f v ≤ p.1 ∧ (f v = p.1 → i ≤ v))
    ∧ ((i ∈ L ∧ f i = p.1) ∨ (i = 0 ∧ p.1 = ⊥))

/-- A step keeps what the running arg-max holds, the new position met. -/
theorem Holds.step {f : Fin 64 → EReal} {L : Set (Fin 64)} {p : EReal × BitVec 32} (h : Holds f L p) (v : Fin 64) :
    Holds f (insert v L) (step p (f v, BitVec.ofNat 32 v)) := by
  obtain ⟨i, hi, hL, hor⟩ := h
  have hslt : p.2.slt (BitVec.ofNat 32 (v : ℕ)) = decide (i < v) := by
    rw [hi, BitVec.slt_eq_decide, toInt_position, toInt_position]; simp
  unfold FirstMax.step
  simp only [hslt, decide_eq_true_eq]
  by_cases h1 : f v < p.1
  · simp only [h1, if_true, true_or]
    refine ⟨i, hi, fun u hu => ?_, ?_⟩
    · rcases Set.mem_insert_iff.1 hu with rfl | hu
      · exact ⟨h1.le, fun e => absurd e h1.ne⟩
      · exact hL u hu
    · exact hor.imp (fun h => ⟨Set.mem_insert_of_mem _ h.1, h.2⟩) id
  · simp only [h1, if_false, false_or]
    by_cases h2 : p.1 = f v
    · by_cases h3 : i < v
      · rw [if_pos ⟨h2, h3⟩]
        refine ⟨i, hi, fun u hu => ?_, ?_⟩
        · rcases Set.mem_insert_iff.1 hu with rfl | hu
          · exact ⟨le_rfl, fun _ => h3.le⟩
          · have := hL u hu; rw [h2] at this; exact this
        · exact hor.imp (fun h => ⟨Set.mem_insert_of_mem _ h.1, h.2.trans h2⟩) (fun h => ⟨h.1, h2 ▸ h.2⟩)
      · rw [if_neg fun h => h3 h.2]
        refine ⟨v, rfl, fun u hu => ?_, Or.inl ⟨Set.mem_insert _ _, rfl⟩⟩
        rcases Set.mem_insert_iff.1 hu with rfl | hu
        · exact ⟨le_rfl, fun _ => le_rfl⟩
        · have := hL u hu; rw [h2] at this
          exact ⟨this.1, fun e => (not_lt.1 h3).trans (this.2 e)⟩
    · rw [if_neg fun h => h2 h.1]
      have h4 : p.1 < f v := lt_of_le_of_ne (not_lt.1 h1) h2
      refine ⟨v, rfl, fun u hu => ?_, Or.inl ⟨Set.mem_insert _ _, rfl⟩⟩
      rcases Set.mem_insert_iff.1 hu with rfl | hu
      · exact ⟨le_rfl, fun _ => le_rfl⟩
      · exact ⟨((hL u hu).1.trans_lt h4).le, fun e => absurd e ((hL u hu).1.trans_lt h4).ne⟩

/-- Over a list of (value, position) pairs of the row the running arg-max holds what it should for the
    positions met before and those of the list. -/
theorem Holds.foldl {f : Fin 64 → EReal} (P : List (EReal × BitVec 32)) (hP : ∀ q ∈ P, ∃ v : Fin 64, q = (f v, BitVec.ofNat 32 v))
    {L : Set (Fin 64)} {p : EReal × BitVec 32} (h : Holds f L p) :
    Holds f (L ∪ {v | (f v, BitVec.ofNat 32 (v : ℕ)) ∈ P}) (P.foldl FirstMax.step p) := by
  induction P generalizing L p with
  | nil => simpa using h
  | cons q P ih =>
    obtain ⟨v, rfl⟩ := hP q List.mem_cons_self
    have := ih (fun q hq => hP q (List.mem_cons_of_mem _ hq)) (h.step v)
    rw [List.foldl_cons]
    refine cast (congrArg (fun S => Holds f S _) ?_) this
    ext u
    have hinj : (f u, BitVec.ofNat 32 (u : ℕ)) = (f v, BitVec.ofNat 32 (v : ℕ)) ↔ u = v := by
      refine ⟨fun e => Fin.ext ?_, fun e => e ▸ rfl⟩
      have := congrArg (fun q : EReal × BitVec 32 => q.2.toInt) e
      simp only [toInt_position] at this
      exact_mod_cast this
    simp only [Set.mem_union, Set.mem_insert_iff, Set.mem_setOf_eq, List.mem_cons, hinj]
    tauto

/-- The running arg-max from (−∞, 0) over the row's pairs, every one of the 64 met, in any order, ends at the
    first position of the greatest value. -/
theorem foldl_step (f : Fin 64 → EReal) (P : List (EReal × BitVec 32))
    (hP : ∀ q ∈ P, ∃ v : Fin 64, q = (f v, BitVec.ofNat 32 v)) (hall : ∀ v : Fin 64, (f v, BitVec.ofNat 32 (v : ℕ)) ∈ P) :
    (P.foldl step (⊥, 0#32)).2 = BitVec.ofNat 32 (first f : ℕ) := by
  have h0 : Holds f ∅ (⊥, 0#32) := ⟨0, rfl, fun v hv => absurd hv (Set.notMem_empty v), Or.inr ⟨rfl, rfl⟩⟩
  obtain ⟨i, hi, hL, hor⟩ := h0.foldl P hP
  have hL' : ∀ v, f v ≤ (P.foldl step (⊥, 0#32)).1 ∧ (f v = (P.foldl step (⊥, 0#32)).1 → i ≤ v) :=
    fun v => hL v (Or.inr (hall v))
  have hf : f i = (P.foldl step (⊥, 0#32)).1 := by
    rcases hor with h | h
    · exact h.2
    · rw [h.2]; exact le_bot_iff.1 (h.2 ▸ (hL' i).1)
  have : IsFirst f i := ⟨fun v => hf ▸ (hL' v).1, fun v e => (hL' v).2 (e.trans hf)⟩
  rw [hi, this.unique (first_isFirst f)]

end Cert.FirstMax

end
-- ==== Proof.Block.lean ====
module

public import proofs.«01_k».proof.Proof.Gen.KernelIdeal.Frame
public import proofs.«01_k».proof.Proof.FirstMax
public import Idealize.ShloMosaic.Lib.Pointwise

/-!
What the kernel computes of one block of 128 columns: at step `t` and row `b`, the first position of the
greatest of the 64 logits, and the sum over the steps of the greatest logits.
-/

@[expose] public section

set_option maxRecDepth 16384

noncomputable section

namespace Cert.KernelIdeal.Block
open Cert.KernelIdeal Cert.KernelIdeal.Gen
open Idealize.ShloMosaic

/-- A logit of the block: the weights' row `64 t + v` against the block's row `b`. -/
def score (x : Vec Ideal S512x128 .f32) (a : Vec Ideal S1024x128 .f32) (b : Fin 512) (t : Fin 16) (v : Fin 64) : EReal :=
  ∑ k : Fin 128, a (ix2 ⟨t * 64 + v, by have := t.isLt; have := v.isLt; omega⟩ k) * x (ix2 b k)

/-- The matrix product at an index is the logit. -/
theorem pay1_apply (x : Vec Ideal S512x128 .f32) (a : Vec Ideal S1024x128 .f32) (t : Fin 16) (v : Fin 64) (b : Fin 512) :
    k0_pay1 (F := Ideal) x a (ix3 t v b) = score x a b t v := by
  pointwise [k0_pay1, score]

/-- The maximum over the 64 symbols is the greatest logit. -/
theorem pay2_apply (x : Vec Ideal S512x128 .f32) (a : Vec Ideal S1024x128 .f32) (t : Fin 16) (b : Fin 512) :
    k0_pay2 (F := Ideal) x a (ix2 t b) = FirstMax.top (score x a b t) := by
  pointwise [k0_pay2]
  rw [FirstMax.const_neg_inf]
  exact congrArg FirstMax.top (funext fun v => pay1_apply x a t v b)

/-- The stored positions: the first position of the greatest logit. -/
theorem pay3_apply (x : Vec Ideal S512x128 .f32) (a : Vec Ideal S1024x128 .f32) (z : Fin 1) (t : Fin 16) (b : Fin 512) :
    k0_pay3 (F := Ideal) x a (ix3 z t b) = BitVec.ofNat 32 (FirstMax.first (score x a b t) : ℕ) := by
  pointwise [k0_pay3]
  rw [FirstMax.const_pos_inf, FirstMax.const_sixty_four, pay2_apply]
  simp only [pay1_apply, FirstMax.sitofp_position]
  exact (congrArg (Ideal.fptosi 32) (FirstMax.fold_min_position (score x a b t))).trans (FirstMax.fptosi_position _)

/-- The stored scores: the sum over the steps of the greatest logit. -/
theorem pay4_apply (x : Vec Ideal S512x128 .f32) (a : Vec Ideal S1024x128 .f32) (z z' : Fin 1) (b : Fin 512) :
    k0_pay4 (F := Ideal) x a (ix3 z z' b) = ∑ t : Fin 16, FirstMax.top (score x a b t) := by
  pointwise [k0_pay4]
  exact Finset.sum_congr rfl fun t _ => pay2_apply x a t b

/-- The kernel's four copies of the block's computation are one: the first copy of the positions is the fourth. -/
theorem pay7_eq (x : Vec Ideal S512x128 .f32) (a : Vec Ideal S1024x128 .f32) : k0_pay7 (F := Ideal) x a = k0_pay3 x a := rfl
/-- The second copy of the positions is the fourth. -/
theorem pay12_eq (x : Vec Ideal S512x128 .f32) (a : Vec Ideal S1024x128 .f32) : k0_pay12 (F := Ideal) (k0_pay11 x a) = k0_pay3 x a := rfl
/-- The third copy of the positions is the fourth. -/
theorem pay16_eq (x : Vec Ideal S512x128 .f32) (a : Vec Ideal S1024x128 .f32) : k0_pay16 (F := Ideal) x a = k0_pay3 x a := rfl
/-- The first copy of the scores is the fourth. -/
theorem pay8_eq (x : Vec Ideal S512x128 .f32) (a : Vec Ideal S1024x128 .f32) : k0_pay8 (F := Ideal) x a = k0_pay4 x a := rfl
/-- The second copy of the scores is the fourth. -/
theorem pay13_eq (x : Vec Ideal S512x128 .f32) (a : Vec Ideal S1024x128 .f32) : k0_pay13 (F := Ideal) (k0_pay10 x a) = k0_pay4 x a := rfl
/-- The third copy of the scores is the fourth. -/
theorem pay17_eq (x : Vec Ideal S512x128 .f32) (a : Vec Ideal S1024x128 .f32) : k0_pay17 (F := Ideal) x a = k0_pay4 x a := rfl

end Cert.KernelIdeal.Block

end
-- ==== Proof.Tiles.lean ====
module

public import proofs.«01_k».proof.Proof.Block
public import Idealize.ShloMosaic.Lib.Pipeline.ValueKit

/-!
What the body leaves in its two output buffers, at an index: at block `q` of the four, step `t` and row `b`, the
first position of the greatest logit of the block's 128 columns, and the sum of the greatest logits.
-/

@[expose] public section

set_option maxRecDepth 16384

noncomputable section

namespace Cert.KernelIdeal.Block
open Cert.KernelIdeal Cert.KernelIdeal.Gen
open Idealize.ShloMosaic

variable (x0 : Vec Ideal S512x512 .f32) (x1 : Vec Ideal S1024x128 .f32)

/-- A logit of block `q` of the four the buffer holds: columns `128 q` to `128 q + 127` of its row `b`. -/
def score4 (b : Fin 512) (q : Fin 4) (t : Fin 16) (v : Fin 64) : EReal :=
  ∑ k : Fin 128, x1 (ix2 ⟨t * 64 + v, by have := t.isLt; have := v.isLt; omega⟩ k)
    * x0 (ix2 b ⟨q * 128 + k, by have := q.isLt; have := k.isLt; omega⟩)

/-- The logits of the columns loaded at offset `128 q` are block `q`'s. -/
theorem score_ld (q : Fin 4) (o : ℕ) (ho : o = q * 128) (inb : ∀ a, ![0, o] a + S512x128.size a ≤ S512x512.size a)
    (b : Fin 512) (t : Fin 16) :
    score (View.ld x0 (Rect.unit (s := S512x512) ![0, o] S512x128.size inb)) (View.ld x1 r0_1) b t = score4 x0 x1 b q t := by
  funext v
  refine Finset.sum_congr rfl fun k _ => ?_
  refine congrArg₂ (· * ·) ?_ ?_
  · refine View.ld_unit_apply_of (S := S1024x128) x1 _ _ _ _ _ fun a => ?_
    match a with
    | ⟨0, _⟩ => exact (Nat.zero_add _).symm
    | ⟨1, _⟩ => exact (Nat.zero_add _).symm
  · refine View.ld_unit_apply_of (S := S512x512) x0 _ _ _ _ _ fun a => ?_
    match a with
    | ⟨0, _⟩ => exact (Nat.zero_add _).symm
    | ⟨1, _⟩ => exact congrArg (· + (k : ℕ)) ho.symm

/-- The positions stored in slab `q` are block `q`'s. -/
theorem tile_seq (q : Fin 4) (o : ℕ) (ho : o = q * 128) (inb : ∀ a, ![0, o] a + S512x128.size a ≤ S512x512.size a)
    (y : S4x16x512.Idx) :
    View.TileAt (Val := Elt Ideal) (e := .i32) y ![(q : ℕ), 0, 0] S1x16x512.size
      (k0_pay3 (F := Ideal) (View.ld x0 (Rect.unit (s := S512x512) ![0, o] S512x128.size inb)) (View.ld x1 r0_1))
      (BitVec.ofNat 32 (FirstMax.first (score4 x0 x1 (y 2) (y 0) (y 1)) : ℕ)) := by
  intro x hx
  have h0 : y 0 = q := Fin.ext ((hx 0).trans (by have : (x 0 : ℕ) < 1 := (x 0).isLt; show (q : ℕ) + (x 0 : ℕ) = q; omega))
  have h1 : y 1 = x 1 := Fin.ext ((hx 1).trans (Nat.zero_add _))
  have h2 : y 2 = x 2 := Fin.ext ((hx 2).trans (Nat.zero_add _))
  rw [h0, h1, h2]
  have ex : x = ix3 (x 0) (x 1) (x 2) := funext fun a => by match a with | ⟨0, _⟩ => rfl | ⟨1, _⟩ => rfl | ⟨2, _⟩ => rfl
  exact (congrArg _ ex).trans ((pay3_apply _ _ _ _ _).trans
    (congrArg (fun f => BitVec.ofNat 32 (FirstMax.first f : ℕ)) (score_ld x0 x1 q o ho inb (x 2) (x 1))))

/-- The scores stored in slab `q` are block `q`'s. -/
theorem tile_score (q : Fin 4) (o : ℕ) (ho : o = q * 128) (inb : ∀ a, ![0, o] a + S512x128.size a ≤ S512x512.size a)
    (y : S4x1x512.Idx) :
    View.TileAt (Val := Elt Ideal) (e := .f32) y ![(q : ℕ), 0, 0] S1x1x512.size
      (k0_pay4 (F := Ideal) (View.ld x0 (Rect.unit (s := S512x512) ![0, o] S512x128.size inb)) (View.ld x1 r0_1))
      (∑ t : Fin 16, FirstMax.top (score4 x0 x1 (y 2) (y 0) t)) := by
  intro x hx
  have h0 : y 0 = q := Fin.ext ((hx 0).trans (by have : (x 0 : ℕ) < 1 := (x 0).isLt; show (q : ℕ) + (x 0 : ℕ) = q; omega))
  have h2 : y 2 = x 2 := Fin.ext ((hx 2).trans (Nat.zero_add _))
  rw [h0, h2]
  have ex : x = ix3 (x 0) (x 1) (x 2) := funext fun a => by match a with | ⟨0, _⟩ => rfl | ⟨1, _⟩ => rfl | ⟨2, _⟩ => rfl
  exact (congrArg _ ex).trans ((pay4_apply _ _ _ _ _).trans
    (Finset.sum_congr rfl fun t _ => congrArg FirstMax.top (score_ld x0 x1 q o ho inb (x 2) t)))

/-- The first output buffer after the body, at an index. -/
theorem out_seq (y : S4x16x512.Idx) :
    out0_2 (F := Ideal) x0 x1 y = BitVec.ofNat 32 (FirstMax.first (score4 x0 x1 (y 2) (y 0) (y 1)) : ℕ) :=
  View.canon_eq_of_allAt _ y _ (cover0_2 _ _ _ _ y)
    (View.allAt_cons_unit _ _ _ _ _ (tile_seq x0 x1 3 384 rfl _ y)
      (View.allAt_cons_unit _ _ _ _ _ (tile_seq x0 x1 2 256 rfl _ y)
        (View.allAt_cons_unit _ _ _ _ _ (tile_seq x0 x1 1 128 rfl _ y)
          (View.allAt_cons_unit _ _ _ _ _ (tile_seq x0 x1 0 0 rfl _ y) (View.allAt_nil _ _)))))

/-- The second output buffer after the body, at an index. -/
theorem out_score (y : S4x1x512.Idx) :
    out0_3 (F := Ideal) x0 x1 y = ∑ t : Fin 16, FirstMax.top (score4 x0 x1 (y 2) (y 0) t) :=
  View.canon_eq_of_allAt _ y _ (cover0_3 _ _ _ _ y)
    (View.allAt_cons_unit _ _ _ _ _ (tile_score x0 x1 3 384 rfl _ y)
      (View.allAt_cons_unit _ _ _ _ _ (tile_score x0 x1 2 256 rfl _ y)
        (View.allAt_cons_unit _ _ _ _ _ (tile_score x0 x1 1 128 rfl _ y)
          (View.allAt_cons_unit _ _ _ _ _ (tile_score x0 x1 0 0 rfl _ y) (View.allAt_nil _ _)))))

end Cert.KernelIdeal.Block

end
-- ==== Proof.RefRun.lean ====
/-
  The run of the reference program: its @main is a straight line of host operations, the arg-max a called
  function; every execution ends with each buffer at the operations' results folded over the launch contents.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Run
open Cert.ReferenceIdeal Cert.ReferenceIdeal.Gen
open Idealize.ShloMosaic Idealize.ShloMosaic.TcCoe Idealize.ShloMosaic.StableHlo Idealize.SL.Sem

variable {F : FTy → Type} [FloatOps F]

/-- The reference's operations in the order it runs them. -/
abbrev ops : List (HloOp τ sig (Elt F)) :=
  [ reshape main_arg0 main_v0 rfl shapeCasts_S512x8192_S32768x128,
    binary main_v0 main_arg1 main_v1 (fun l r => Host.dotGeneral dot_S32768x128_S128x16x64_S32768x16x64_1_0_0_12_n_n none l r),
    TRef.nullary main_call0.v0 (iotaInDim S32768x16x64 32 2),
    TRef.nullary main_call0.cst (constant S_ .f32 0xFF800000#32),
    TRef.nullary main_call0.c (constantI S_ 32 0#32),
    TRef.quaternary (.of main_v1) main_call0.v0 main_call0.cst main_call0.c main_call0.v1_0
      (fun x y u v j => (Host.argReduce reducer_argmax_f32_i32 x y u v reducesTo_S32768x16x64_S32768x16_d2 h_S_ j).1),
    TRef.quaternary (.of main_v1) main_call0.v0 main_call0.cst main_call0.c main_call0.v1_1
      (fun x y u v j => (Host.argReduce reducer_argmax_f32_i32 x y u v reducesTo_S32768x16x64_S32768x16_d2 h_S_ j).2),
    nullary main_cst (constant S_ .f32 0xFF800000#32),
    binary main_v1 main_cst main_v3 (fun x v => Host.reduce FloatOps.maximumf x v reducesTo_S32768x16x64_S32768x16_d2 h_S_),
    nullary main_cst_0 (constant S_ .f32 0x00000000#32),
    binary main_v3 main_cst_0 main_v4 (fun x v => Host.reduceAdd x v reducesTo_S32768x16_S32768_d1 h_S_),
    nullary main_c (constantI S_ 32 16#32),
    unary main_c main_v5 (broadcastInDim S32768 ![] bcast_S_S32768),
    reshape main_v2 main_v6 rfl shapeCasts_S32768x16_S512x64x16,
    reshape main_v5 main_v7 rfl shapeCasts_S32768_S512x64,
    reshape main_v4 main_v8 rfl shapeCasts_S32768_S512x64 ]

/-- The reference's @main is that straight line. -/
theorem main_eq (c : Dev nD) : main (F := F) c = seq ops := by
  simp only [main, fn_argmax.body, seq, bind_assoc, pure_bind]
  rfl

/-- The logits: the first argument's rows of 128 contracted with the second argument. -/
def logits (x : (⟨S512x8192, .f32⟩ : BufTy).Contents (Elt F)) (w : (⟨S128x16x64, .f32⟩ : BufTy).Contents (Elt F)) :
    (⟨S32768x16x64, .f32⟩ : BufTy).Contents (Elt F) :=
  Host.dotGeneral (F := F) dot_S32768x128_S128x16x64_S32768x16x64_1_0_0_12_n_n none
    (shapeCast S32768x128 x shapeCasts_S512x8192_S32768x128) w

/-- The first result: the arg-max of each row of 64 logits. -/
def seqs (x : (⟨S512x8192, .f32⟩ : BufTy).Contents (Elt F)) (w : (⟨S128x16x64, .f32⟩ : BufTy).Contents (Elt F)) :
    (⟨S512x64x16, .i32⟩ : BufTy).Contents (Elt F) :=
  shapeCast S512x64x16 (fun j => (Host.argReduce (F := F) (φ := .f32) reducer_argmax_f32_i32 (logits x w)
      (iotaInDim S32768x16x64 32 2) (constant (F := F) S_ .f32 0xFF800000#32) (constantI S_ 32 0#32)
      reducesTo_S32768x16x64_S32768x16_d2 h_S_ j).2) shapeCasts_S32768x16_S512x64x16

/-- The second result: the constant 16. -/
def lengths : IVec S512x64 32 :=
  shapeCast S512x64 (broadcastInDim S32768 ![] bcast_S_S32768 (constantI S_ 32 16#32)) shapeCasts_S32768_S512x64

/-- The third result: the sum over the 16 steps of the greatest of 64 logits. -/
def scores (x : (⟨S512x8192, .f32⟩ : BufTy).Contents (Elt F)) (w : (⟨S128x16x64, .f32⟩ : BufTy).Contents (Elt F)) :
    (⟨S512x64, .f32⟩ : BufTy).Contents (Elt F) :=
  shapeCast S512x64 (Host.reduceAdd (F := F) (φ := .f32)
      (Host.reduce FloatOps.maximumf (logits x w) (constant (F := F) S_ .f32 0xFF800000#32) reducesTo_S32768x16x64_S32768x16_d2 h_S_)
      (constant (F := F) S_ .f32 0x00000000#32) reducesTo_S32768x16_S32768_d1 h_S_) shapeCasts_S32768_S512x64

section Line
/-! The line over any functions in place of its large ones, so that what it composes is read without opening them. -/

variable (dot : (⟨S32768x128, .f32⟩ : BufTy).Contents (Elt F) → (⟨S128x16x64, .f32⟩ : BufTy).Contents (Elt F) → (⟨S32768x16x64, .f32⟩ : BufTy).Contents (Elt F))
  (am0 : (⟨S32768x16x64, .f32⟩ : BufTy).Contents (Elt F) → (⟨S32768x16x64, .i32⟩ : BufTy).Contents (Elt F) → (⟨S_, .f32⟩ : BufTy).Contents (Elt F) → (⟨S_, .i32⟩ : BufTy).Contents (Elt F) → (⟨S32768x16, .f32⟩ : BufTy).Contents (Elt F))
  (am1 : (⟨S32768x16x64, .f32⟩ : BufTy).Contents (Elt F) → (⟨S32768x16x64, .i32⟩ : BufTy).Contents (Elt F) → (⟨S_, .f32⟩ : BufTy).Contents (Elt F) → (⟨S_, .i32⟩ : BufTy).Contents (Elt F) → (⟨S32768x16, .i32⟩ : BufTy).Contents (Elt F))
  (rmax : (⟨S32768x16x64, .f32⟩ : BufTy).Contents (Elt F) → (⟨S_, .f32⟩ : BufTy).Contents (Elt F) → (⟨S32768x16, .f32⟩ : BufTy).Contents (Elt F))
  (radd : (⟨S32768x16, .f32⟩ : BufTy).Contents (Elt F) → (⟨S_, .f32⟩ : BufTy).Contents (Elt F) → (⟨S32768, .f32⟩ : BufTy).Contents (Elt F))

/-- The line of operations over given functions. -/
abbrev line : List (HloOp τ sig (Elt F)) :=
  [ reshape main_arg0 main_v0 rfl shapeCasts_S512x8192_S32768x128,
    binary main_v0 main_arg1 main_v1 dot,
    TRef.nullary main_call0.v0 (iotaInDim S32768x16x64 32 2),
    TRef.nullary main_call0.cst (constant S_ .f32 0xFF800000#32),
    TRef.nullary main_call0.c (constantI S_ 32 0#32),
    TRef.quaternary (.of main_v1) main_call0.v0 main_call0.cst main_call0.c main_call0.v1_0 am0,
    TRef.quaternary (.of main_v1) main_call0.v0 main_call0.cst main_call0.c main_call0.v1_1 am1,
    nullary main_cst (constant S_ .f32 0xFF800000#32),
    binary main_v1 main_cst main_v3 rmax,
    nullary main_cst_0 (constant S_ .f32 0x00000000#32),
    binary main_v3 main_cst_0 main_v4 radd,
    nullary main_c (constantI S_ 32 16#32),
    unary main_c main_v5 (broadcastInDim S32768 ![] bcast_S_S32768),
    reshape main_v2 main_v6 rfl shapeCasts_S32768x16_S512x64x16,
    reshape main_v5 main_v7 rfl shapeCasts_S32768_S512x64,
    reshape main_v4 main_v8 rfl shapeCasts_S32768_S512x64 ]

/-- The line's fold at the first result's buffer. -/
theorem line_v6 (V : Valuation τ sig (Elt F)) :
    after (line dot am0 am1 rmax radd) V (main_v6 : DevRef τ sig)
      = shapeCast S512x64x16 (am1 (dot (shapeCast S32768x128 (V (main_arg0 : DevRef τ sig) : (⟨S512x8192, .f32⟩ : BufTy).Contents (Elt F)) shapeCasts_S512x8192_S32768x128)
            (V (main_arg1 : DevRef τ sig)))
          (iotaInDim S32768x16x64 32 2) (constant S_ .f32 0xFF800000#32) (constantI S_ 32 0#32))
        shapeCasts_S32768x16_S512x64x16 := by
  after_results_simp
  rfl
/-- The line's fold at the third result's buffer. -/
theorem line_v8 (V : Valuation τ sig (Elt F)) :
    after (line dot am0 am1 rmax radd) V (main_v8 : DevRef τ sig)
      = shapeCast S512x64 (radd (rmax (dot (shapeCast S32768x128 (V (main_arg0 : DevRef τ sig) : (⟨S512x8192, .f32⟩ : BufTy).Contents (Elt F)) shapeCasts_S512x8192_S32768x128)
            (V (main_arg1 : DevRef τ sig))) (constant S_ .f32 0xFF800000#32)) (constant S_ .f32 0x00000000#32))
        shapeCasts_S32768_S512x64 := by
  after_results_simp
  rfl
end Line

/-- The operations' fold at the first result's buffer. -/
theorem seqs_eq (V : Valuation τ sig (Elt F)) :
    after ops V (main_v6 : DevRef τ sig) = seqs (V (main_arg0 : DevRef τ sig)) (V (main_arg1 : DevRef τ sig)) :=
  line_v6 _ _ _ _ _ V
/-- The operations' fold at the second result's buffer. -/
theorem lengths_eq (V : Valuation τ sig (Elt F)) :
    after ops V (main_v7 : DevRef τ sig) = lengths := by
  after_results_simp
  rfl
/-- The operations' fold at the third result's buffer. -/
theorem scores_eq (V : Valuation τ sig (Elt F)) :
    after ops V (main_v8 : DevRef τ sig) = scores (V (main_arg0 : DevRef τ sig)) (V (main_arg1 : DevRef τ sig)) :=
  line_v8 _ _ _ _ _ V
/-- No operation writes the first argument's buffer. -/
theorem arg0_eq (V : Valuation τ sig (Elt F)) :
    after ops V (main_arg0 : DevRef τ sig) = V (main_arg0 : DevRef τ sig) := by
  simp only [after_cons, after_nil]
  rfl
/-- No operation writes the second argument's buffer. -/
theorem arg1_eq (V : Valuation τ sig (Elt F)) :
    after ops V (main_arg1 : DevRef τ sig) = V (main_arg1 : DevRef τ sig) := by
  simp only [after_cons, after_nil]
  rfl

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- Every operation touches the core's own buffers only. -/
theorem ops_sub : (ops : List (HloOp τ sig (Elt F))).Forall fun op => op.bufs ⊆ tcRefs τ sig :=
  ⟨reshape_bufs_sub .., binary_bufs_sub .., nullary_bufs_sub .., nullary_bufs_sub .., nullary_bufs_sub ..,
    quaternary_bufs_sub .., quaternary_bufs_sub .., nullary_bufs_sub .., binary_bufs_sub .., nullary_bufs_sub ..,
    binary_bufs_sub .., nullary_bufs_sub .., unary_bufs_sub .., reshape_bufs_sub .., reshape_bufs_sub ..,
    reshape_bufs_sub ..⟩

/-- Every execution of the reference ends, the three results' buffers at `seqs`, `lengths`, `scores` of the
    arguments' launch contents and the arguments' buffers unchanged. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = seqs (m ((c.tc : Thread nD τ).loc main_arg0)) (m ((c.tc : Thread nD τ).loc main_arg1))
        ∧ r.2.mem ((c.tc : Thread nD τ).loc main_v7) = lengths
        ∧ r.2.mem ((c.tc : Thread nD τ).loc main_v8)
          = scores (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v6).trans (seqs_eq _), (h c main_v7).trans (lengths_eq _),
      (h c main_v8).trans (scores_eq _), (h c main_arg0).trans (arg0_eq _), (h c main_arg1).trans (arg1_eq _)⟩)
    (run_seq scopedRefs_eq scopedSems_eq defs main (fun _ => ops) main_eq (fun _ => ops_sub) m ρ)

end Cert.ReferenceIdeal.Run

end
-- ==== Proof.RefValue.lean ====
module

public import proofs.«01_k».proof.Proof.RefRun
public import proofs.«01_k».proof.Proof.FirstMax
public import Idealize.ShloMosaic.Lib.Pointwise
public import Idealize.ShloMosaic.Lib.WordArith

/-!
What the reference computes, at an index, over the extended reals: at batch row `b`, block `j` and step `t`,
the first position of the greatest of the 64 logits; the constant 16; and the sum over the steps of the
greatest logits.
-/

@[expose] public section

set_option maxRecDepth 16384

noncomputable section

namespace Cert
open Idealize.ShloMosaic

/-- The logit of batch row `b`, block `j`, step `t`, symbol `v`: the block's 128 entries of the row against the
    weights' column at `(t, v)`. -/
def logit (x : Vec Ideal ⟨2, ![512, 8192]⟩ .f32) (w : Vec Ideal ⟨3, ![128, 16, 64]⟩ .f32)
    (b : Fin 512) (j : Fin 64) (t : Fin 16) (v : Fin 64) : EReal :=
  ∑ k : Fin 128, x (ix2 b ⟨j * 128 + k, by have := j.isLt; have := k.isLt; omega⟩) * w (ix3 k t v)

end Cert

namespace Cert.ReferenceIdeal.Value
open Cert.ReferenceIdeal Cert.ReferenceIdeal.Gen Cert.ReferenceIdeal.Run
open Idealize.ShloMosaic

/-- The row of the reference's matrix product that block `j` of batch row `b` is. -/
def row (b : Fin 512) (j : Fin 64) : Fin 32768 := ⟨b * 64 + j, by have := j.isLt; have := b.isLt; omega⟩

/-- The matrix product at an index is the logit. -/
theorem logits_apply (x : Vec Ideal S512x8192 .f32) (w : Vec Ideal S128x16x64 .f32) (b : Fin 512) (j : Fin 64) (t : Fin 16) (v : Fin 64) :
    logits (F := Ideal) x w (ix3 (row b j) t v) = logit x w b j t v := by
  pointwise [logits, row, logit]
  have hj : ((b : ℕ) * 64 + (j : ℕ)) % 64 = (j : ℕ) := by have := j.isLt; omega
  simp only [hj]

/-- The reducer's body at a pair of pairs is one step of the running arg-max. -/
theorem reducer_eq : reducer_argmax_f32_i32 (F := Ideal) = FirstMax.step := by
  funext p q
  have h2 : FloatOps.cmpf (F := Ideal) (φ := .f32) .ogt p.1 q.1 = BitVec.ofBool (decide (q.1 < p.1)) := rfl
  have h3 : FloatOps.cmpf (F := Ideal) (φ := .f32) .une p.1 p.1 = BitVec.ofBool (decide (p.1 ≠ p.1)) := rfl
  have h5 : FloatOps.cmpf (F := Ideal) (φ := .f32) .oeq p.1 q.1 = BitVec.ofBool (decide (p.1 = q.1)) := rfl
  have h6 : IntOp.cmpi .slt p.2 q.2 = BitVec.ofBool (p.2.slt q.2) := rfl
  unfold reducer_argmax_f32_i32 FirstMax.step
  simp only [h2, h3, h5, h6, WordArith.ori_ofBool, WordArith.andi_ofBool, Scalar.select, WordArith.ofBool_eq_one_iff,
    ne_eq, not_true_eq_false, decide_false, Bool.or_false, Bool.or_eq_true, Bool.and_eq_true, decide_eq_true_eq,
    WordArith.ofBool_eq_numeral_one_iff]

/-- An index of the 3-axis array drops, at the last axis, to the pair of its first two coordinates. -/
theorem drop_eq (i : S32768x16x64.Idx) (n : Fin 32768) (t : Fin 16) :
    reducesTo_S32768x16x64_S32768x16_d2.drop i = ix2 n t ↔ ∃ v : Fin 64, i = ix3 n t v := by
  have h0 : (reducesTo_S32768x16x64_S32768x16_d2.drop i 0 : ℕ) = i 0 :=
    Shape.ReducesTo.drop_apply_val_of_eq reducesTo_S32768x16x64_S32768x16_d2 i 0 0
  have h1 : (reducesTo_S32768x16x64_S32768x16_d2.drop i 1 : ℕ) = i 1 :=
    Shape.ReducesTo.drop_apply_val_of_eq reducesTo_S32768x16x64_S32768x16_d2 i 1 1
  constructor
  · intro h
    rw [h] at h0 h1
    refine ⟨i 2, funext fun a => Fin.ext ?_⟩
    match a with
    | ⟨0, _⟩ => exact h0.symm
    | ⟨1, _⟩ => exact h1.symm
    | ⟨2, _⟩ => rfl
  · rintro ⟨v, rfl⟩
    funext a
    apply Fin.ext
    match a with
    | ⟨0, _⟩ => exact h0
    | ⟨1, _⟩ => exact h1

/-- The reference's arg-max of an array of rows of 64 is, at a row, the first position of its greatest entry. -/
theorem argmax_apply (l : FVec Ideal S32768x16x64 .f32) (n : Fin 32768) (t : Fin 16) :
    (Host.argReduce (F := Ideal) (φ := .f32) reducer_argmax_f32_i32 l
      (iotaInDim S32768x16x64 32 2) (constant (F := Ideal) S_ .f32 0xFF800000#32) (constantI S_ 32 0#32)
      reducesTo_S32768x16x64_S32768x16_d2 h_S_ (ix2 n t)).2
      = BitVec.ofNat 32 (FirstMax.first fun v => l (ix3 n t v) : ℕ) := by
  rw [Ideal.argReduce_eq_reduce2, Host.reduce2_eq_foldl_fiber, reducer_eq]
  have hc : (constant (F := Ideal) S_ .f32 0xFF800000#32 (Shape.Idx.first h_S_), constantI S_ 32 0#32 (Shape.Idx.first h_S_))
      = ((⊥ : EReal), 0#32) := Prod.ext FirstMax.const_neg_inf rfl
  rw [hc]
  refine FirstMax.foldl_step _ _ (fun q hq => ?_) fun v => ?_
  · obtain ⟨k, hk, rfl⟩ := List.mem_map.1 hq
    obtain ⟨v, hv⟩ := (drop_eq _ n t).1 (of_decide_eq_true (List.mem_filter.1 hk).2)
    exact ⟨v, by rw [hv]; rfl⟩
  · refine List.mem_map.2 ⟨S32768x16x64.rowMajor (ix3 n t v), List.mem_filter.2 ⟨List.mem_finRange _, decide_eq_true ?_⟩, ?_⟩
    · rw [Equiv.symm_apply_apply]; exact (drop_eq _ n t).2 ⟨v, rfl⟩
    · rw [Equiv.symm_apply_apply]; rfl

/-- The first result's array is the arg-max's re-indexed. -/
theorem cast_apply (y : IVec S32768x16 32) (b : Fin 512) (j : Fin 64) (t : Fin 16) :
    shapeCast S512x64x16 y shapeCasts_S32768x16_S512x64x16 (ix3 b j t) = y (ix2 (row b j) t) := by
  pointwise [row]

/-- The first result at an index: the first position of the greatest logit. -/
theorem seqs_apply (x : Vec Ideal S512x8192 .f32) (w : Vec Ideal S128x16x64 .f32) (b : Fin 512) (j : Fin 64) (t : Fin 16) :
    seqs (F := Ideal) x w (ix3 b j t) = BitVec.ofNat 32 (FirstMax.first (logit x w b j t) : ℕ) := by
  have e : (fun v => logits (F := Ideal) x w (ix3 (row b j) t v)) = logit x w b j t :=
    funext fun v => logits_apply x w b j t v
  rw [← e, ← argmax_apply]
  exact cast_apply _ b j t

/-- The second result: 16 everywhere. -/
theorem lengths_apply (i : S512x64.Idx) : lengths i = 16#32 := by
  pointwise [lengths]

/-- The third result at an index: the sum over the 16 steps of the greatest logit. -/
theorem scores_apply (x : Vec Ideal S512x8192 .f32) (w : Vec Ideal S128x16x64 .f32) (b : Fin 512) (j : Fin 64) :
    scores (F := Ideal) x w (ix2 b j) = ∑ t : Fin 16, FirstMax.top (logit x w b j t) := by
  pointwise [scores]
  refine Finset.sum_congr rfl fun t _ => ?_
  rw [FirstMax.const_neg_inf]
  exact congrArg FirstMax.top (funext fun v => logits_apply x w b j t v)

end Cert.ReferenceIdeal.Value

end
-- ==== Proof.Arrays.lean ====
module

public import proofs.«01_k».proof.Proof.Tiles
public import proofs.«01_k».proof.Proof.RefValue
public import Idealize.ShloMosaic.Lib.StableHlo.ReadAt

/-!
What the kernel's two output arrays hold after the grid, as functions of the two arguments.
-/

@[expose] public section

set_option maxRecDepth 16384

noncomputable section

namespace Cert.KernelIdeal.Arrays
open Cert.KernelIdeal Cert.KernelIdeal.Gen Cert.KernelIdeal.Block
open Idealize.ShloMosaic Idealize.ShloMosaic.TcCoe Idealize.SL.Sem
open Idealize.ShloMosaic.Pipeline (Dat)

variable (m : (ℓ : Loc nD τ sig) → Buf (Elt Ideal) ℓ) (c : Dev nD)

/-- The first argument's launch contents. -/
abbrev argX : Vec Ideal S512x8192 .f32 := m ((c : Thread nD τ).loc main_arg0)
/-- The second argument's launch contents. -/
abbrev argW : Vec Ideal S128x16x64 .f32 := m ((c : Thread nD τ).loc main_arg1)

/-- The weights' window holds the second argument transposed: row `64 t + v`, column `k` is the argument at
    `(k, t, v)`. -/
theorem weights_apply (t : Fin 16) (v : Fin 64) (k : Fin 128) (h : (t : ℕ) * 64 + v < 1024) :
    (V m c main_v1 : Vec Ideal S1024x128 .f32) (ix2 ⟨t * 64 + v, h⟩ k) = argW m c (ix3 k t v) := by
  show StableHlo.after (List.flatten [hostOps0]) (fun b => m (c, b)) (Proc.devRef .tc main_v1) _ = _
  after_reads_at
  refine congrArg (argW m c) (funext fun a => Fin.ext ?_)
  have := v.isLt
  match a with
  | ⟨0, _⟩ => rfl
  | ⟨1, _⟩ => show ((t : ℕ) * 64 + v) / 64 = t; omega
  | ⟨2, _⟩ => show ((t : ℕ) * 64 + v) % 64 = v; omega

/-- The observation window's block index at point t is (0, t). -/
theorem idx0 : ∀ t : Fin grid0.N, win0_0.index t = ![0, (t : ℕ)] := by decide +kernel
/-- The weights' window's block index is (0, 0) at every point. -/
theorem idx1 : ∀ t : Fin grid0.N, win0_1.index t = ![0, 0] := by decide +kernel
/-- The positions' window's block index at point t is (t, 0, 0). -/
theorem idx2 : ∀ t : Fin grid0.N, win0_2.index t = ![(t : ℕ), 0, 0] := by decide +kernel
/-- The scores' window's block index at point t is (t, 0, 0). -/
theorem idx3 : ∀ t : Fin grid0.N, win0_3.index t = ![(t : ℕ), 0, 0] := by decide +kernel

/-- The observation window's block at point `t` is columns `512 t` to `512 t + 511` of the first argument. -/
theorem blockX (t : Fin cfg0.N) (b : Fin 512) (j : Fin 512) (h : t.val * 512 + j < 8192) :
    (iblk m c 0 t : Vec Ideal S512x512 .f32) (ix2 b j) = argX m c (ix2 b ⟨t.val * 512 + j, h⟩) := by
  blk_simp [iblk]
  refine (congrFun (V_main_arg0 m c) _).trans (congrArg (argX m c) (funext fun a => Fin.ext ?_))
  match a with
  | ⟨0, _⟩ => blk_simp [idx0]
  | ⟨1, _⟩ => blk_simp [idx0]

/-- The weights' window's block is the whole transposed array at every point. -/
theorem blockW (t : Fin cfg0.N) (r : Fin 1024) (k : Fin 128) :
    (iblk m c 1 t : Vec Ideal S1024x128 .f32) (ix2 r k) = (V m c main_v1 : Vec Ideal S1024x128 .f32) (ix2 r k) := by
  blk_simp [iblk]
  refine congrArg (V m c main_v1 : Vec Ideal S1024x128 .f32) (funext fun a => Fin.ext ?_)
  match a with
  | ⟨0, _⟩ => blk_simp [idx1]
  | ⟨1, _⟩ => blk_simp [idx1]

/-- The logits of block `q` of point `t` are the logits of block `4 t + q` of the arguments. -/
theorem score4_eq (t : Fin cfg0.N) (b : Fin 512) (q : Fin 4) (s : Fin 16) (j : Fin 64) (hj : (j : ℕ) = t.val * 4 + q) :
    score4 (iblk m c 0 t) (iblk m c 1 t) b q s = logit (argX m c) (argW m c) b j s := by
  funext v
  refine Finset.sum_congr rfl fun k _ => ?_
  have hk := k.isLt
  have hj' := j.isLt
  rw [blockW, weights_apply, mul_comm, blockX m c t b ⟨q * 128 + k, by have := q.isLt; omega⟩ (by show t.val * 512 + ((q : ℕ) * 128 + k) < 8192; omega)]
  refine congrArg₂ (· * ·) (congrArg (argX m c) (funext fun a => Fin.ext ?_)) rfl
  match a with
  | ⟨0, _⟩ => rfl
  | ⟨1, _⟩ => show t.val * 512 + ((q : ℕ) * 128 + k) = (j : ℕ) * 128 + k; omega

/-- The first output array: at `(j, s, b)` the first position of the greatest logit. -/
def seqsArr : Vec Ideal S64x16x512 .i32 :=
  fun i => BitVec.ofNat 32 (FirstMax.first (logit (argX m c) (argW m c) (i 2) (i 0) (i 1)) : ℕ)

/-- The second output array: at `(j, 0, b)` the sum over the steps of the greatest logit. -/
def scoresArr : Vec Ideal S64x1x512 .f32 :=
  fun i => ∑ s : Fin 16, FirstMax.top (logit (argX m c) (argW m c) (i 2) (i 0) s)

/-- After the grid the first output array holds the positions: each point writes back its four blocks, and the
    points' blocks cover the array. -/
theorem final_seqs : (dats m 0 c).arrAt 2 cfg0.N = seqsArr m c := by
  refine (dats m 0 c).arrAt_eq_of_covers 2 _ (by decide +kernel) fun t hf y => ?_
  blk_simp
  rw [after0_2]
  refine (out_seq _ _ y).trans ?_
  have e0 : (((win0_2.blk t).view.emb y 0 : Fin 64) : ℕ) = t.val * 4 + (y 0 : ℕ) := by blk_simp [idx2]
  have e1 : ((win0_2.blk t).view.emb y 1 : Fin 16) = y 1 := Fin.ext (by blk_simp [idx2])
  have e2 : ((win0_2.blk t).view.emb y 2 : Fin 512) = y 2 := Fin.ext (by blk_simp [idx2])
  unfold seqsArr
  rw [e1, e2]
  exact congrArg (fun f => BitVec.ofNat 32 (FirstMax.first f : ℕ)) (score4_eq m c t (y 2) (y 0) (y 1) _ e0)

/-- After the grid the second output array holds the scores. -/
theorem final_scores : (dats m 0 c).arrAt 3 cfg0.N = scoresArr m c := by
  refine (dats m 0 c).arrAt_eq_of_covers 3 _ (by decide +kernel) fun t hf y => ?_
  blk_simp
  rw [after0_3]
  refine (out_score _ _ y).trans ?_
  have e0 : (((win0_3.blk t).view.emb y 0 : Fin 64) : ℕ) = t.val * 4 + (y 0 : ℕ) := by blk_simp [idx3]
  have e2 : ((win0_3.blk t).view.emb y 2 : Fin 512) = y 2 := Fin.ext (by blk_simp [idx3])
  unfold scoresArr
  rw [e2]
  exact Finset.sum_congr rfl fun s _ => congrArg FirstMax.top (score4_eq m c t (y 2) (y 0) s _ e0)

end Cert.KernelIdeal.Arrays

end
-- ==== Proof.KernelRun.lean ====
module

public import proofs.«01_k».proof.Proof.Arrays

/-!
The kernel program's run over the extended reals: its three results, after the host lines that follow the grid.
-/

@[expose] public section

set_option maxRecDepth 16384

noncomputable section

namespace Cert.KernelIdeal.KernelRun
open Cert.KernelIdeal Cert.KernelIdeal.Gen Cert.KernelIdeal.Arrays
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The host lines after the grid start from the first output array at the positions. -/
theorem tail_arr2 :
    Pipeline.withArrays (cfgs 0).spec c (V0 m c) (fun w => (dats m 0 c).arrAt w (cfgs 0).N) (Proc.devRef .tc main_v2_0) = seqsArr m c :=
  (Pipeline.withArrays_arr spec0 (by decide) c (V0 m c) _ 2).trans (final_seqs m c)
/-- After the grid the second output array is at the scores. -/
theorem tail_arr3 :
    Pipeline.withArrays (cfgs 0).spec c (V0 m c) (fun w => (dats m 0 c).arrAt w (cfgs 0).N) (Proc.devRef .tc main_v2_1) = scoresArr m c :=
  (Pipeline.withArrays_arr spec0 (by decide) c (V0 m c) _ 3).trans (final_scores m c)

/-- The first result at an index: the first position of the greatest logit. -/
theorem seqs_apply (b : Fin 512) (j : Fin 64) (t : Fin 16) :
    (Pipeline.afterTail₀ cfgs (dats m) 0 (V0 m) [hostOps1] c main_v3 : Vec Ideal S512x64x16 .i32) (ix3 b j t)
      = BitVec.ofNat 32 (FirstMax.first (logit (argX m c) (argW m c) b j t) : ℕ) := by
  unfold Pipeline.afterTail₀
  have h2 := tail_arr2 m c
  generalize Pipeline.withArrays (cfgs 0).spec c (V0 m c) (fun w => (dats m 0 c).arrAt w (cfgs 0).N) = W at h2 ⊢
  after_reads_at
  exact congrFun h2 (ix3 j t b)

/-- The second result: 16 everywhere. -/
theorem lengths_apply (b : Fin 512) (j : Fin 64) :
    (Pipeline.afterTail₀ cfgs (dats m) 0 (V0 m) [hostOps1] c main_v6 : Vec Ideal S512x64 .i32) (ix2 b j) = 16#32 := by
  unfold Pipeline.afterTail₀
  generalize Pipeline.withArrays (cfgs 0).spec c (V0 m c) (fun w => (dats m 0 c).arrAt w (cfgs 0).N) = W
  after_reads_at

/-- The third result at an index: the sum over the steps of the greatest logit. -/
theorem scores_apply (b : Fin 512) (j : Fin 64) :
    (Pipeline.afterTail₀ cfgs (dats m) 0 (V0 m) [hostOps1] c main_v5 : Vec Ideal S512x64 .f32) (ix2 b j)
      = ∑ t : Fin 16, FirstMax.top (logit (argX m c) (argW m c) b j t) := by
  unfold Pipeline.afterTail₀
  have h3 := tail_arr3 m c
  generalize Pipeline.withArrays (cfgs 0).spec c (V0 m c) (fun w => (dats m 0 c).arrAt w (cfgs 0).N) = W at h3 ⊢
  after_reads_at
  exact congrFun h3 (ix3 j 0 b)

/-- What the first result holds after the host lines. -/
abbrev seqsOut : Vec Ideal S512x64x16 .i32 := Pipeline.afterTail₀ cfgs (dats m) 0 (V0 m) [hostOps1] c main_v3
/-- What the second result holds after the host lines. -/
abbrev lengthsOut : Vec Ideal S512x64 .i32 := Pipeline.afterTail₀ cfgs (dats m) 0 (V0 m) [hostOps1] c main_v6
/-- What the third result holds after the host lines. -/
abbrev scoresOut : Vec Ideal S512x64 .f32 := Pipeline.afterTail₀ cfgs (dats m) 0 (V0 m) [hostOps1] c main_v5

/-- Every execution of the kernel program ends with its three results at these and the arguments unchanged. -/
theorem run : θ_run defs (onTc (τ := τ) (main (F := Ideal))) ⟨m, fun _ => 0, ρ⟩ fun r => ∀ c : Dev nD,
      r.2.mem ((c : Thread nD τ).loc main_v3) = seqsOut m c
      ∧ r.2.mem ((c : Thread nD τ).loc main_v6) = lengthsOut m c
      ∧ r.2.mem ((c : Thread nD τ).loc main_v5) = scoresOut m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h c).2 main_v3 (Pipeline.mem_restRefs_of main_v3 (by decide) (by decide)),
      (h c).2 main_v6 (Pipeline.mem_restRefs_of main_v6 (by decide) (by decide)),
      (h c).2 main_v5 (Pipeline.mem_restRefs_of main_v5 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KernelRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference changes neither argument and leaves every counter at zero: it declares none. -/
theorem frame_ref : Cert.quiescent_ReferenceIdeal := fun m ρ _ =>
  (θ_run Cert.ReferenceIdeal.defs _ _).mono (fun r h => ⟨fun c => ⟨(h c).2.2.2.1, (h c).2.2.2.2⟩,
      Idealize.ShloMosaic.sem_eq_zero_of_no_sems (by decide) r.2⟩)
    (Cert.ReferenceIdeal.Run.run_main (F := Ideal) m ρ)

/-- From equal arguments the reference's three results are the kernel's, index by index. -/
theorem algebraic : Cert.algebraic_KernelIdeal_ReferenceIdeal := by
  intro m ρ m' ρ' _ hagree
  refine ⟨Cert.KernelIdeal.KernelRun.seqsOut m, Cert.KernelIdeal.KernelRun.lengthsOut m,
    Cert.KernelIdeal.KernelRun.scoresOut m, Cert.KernelIdeal.KernelRun.run m ρ, ?_⟩
  refine (θ_run Cert.ReferenceIdeal.defs _ _).mono (fun _ h c => ⟨(h c).1.trans ?_, (h c).2.1.trans ?_,
    (h c).2.2.1.trans ?_, (h c).2.2.2⟩) (Cert.ReferenceIdeal.Run.run_main (F := Ideal) m' ρ')
  · rw [(hagree c).1, (hagree c).2]
    funext i
    have ei : i = ix3 (i 0) (i 1) (i 2) := funext fun a => by match a with | ⟨0, _⟩ => rfl | ⟨1, _⟩ => rfl | ⟨2, _⟩ => rfl
    exact (congrArg _ ei).trans ((Cert.ReferenceIdeal.Value.seqs_apply _ _ (i 0) (i 1) (i 2)).trans
      ((Cert.KernelIdeal.KernelRun.seqs_apply m c (i 0) (i 1) (i 2)).symm.trans (congrArg _ ei.symm)))
  · funext i
    have ei : i = ix2 (i 0) (i 1) := funext fun a => by match a with | ⟨0, _⟩ => rfl | ⟨1, _⟩ => rfl
    exact (Cert.ReferenceIdeal.Value.lengths_apply i).trans
      ((Cert.KernelIdeal.KernelRun.lengths_apply m c (i 0) (i 1)).symm.trans (congrArg _ ei.symm))
  · rw [(hagree c).1, (hagree c).2]
    funext i
    have ei : i = ix2 (i 0) (i 1) := funext fun a => by match a with | ⟨0, _⟩ => rfl | ⟨1, _⟩ => rfl
    exact (congrArg _ ei).trans ((Cert.ReferenceIdeal.Value.scores_apply _ _ (i 0) (i 1)).trans
      ((Cert.KernelIdeal.KernelRun.scores_apply m c (i 0) (i 1)).symm.trans (congrArg _ ei.symm)))

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ref, trivial, algebraic⟩

end Cert.Proof

end
